-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_codes [hPre_codes : Cert.Pre_codes.Facts] (m : (ℓ : Loc Cert.KernelIdeal.nD Cert.KernelIdeal.τ Cert.KernelIdeal.sig) → Buf (Elt Ideal) ℓ) : Prop :=
  ∀ c : Dev Cert.KernelIdeal.nD,
    (Cert.Pre_codes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codes [hPre_codes : Cert.Pre_codes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_codes [hKernelIdeal : Cert.KernelIdeal.Facts] [hPre_codes : Cert.Pre_codes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_codes [hReferenceIdeal : Cert.ReferenceIdeal.Facts] [hPre_codes : Cert.Pre_codes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_codes [hKernelIdeal : Cert.KernelIdeal.Facts] [hReferenceIdeal : Cert.ReferenceIdeal.Facts] [hPre_codes : Cert.Pre_codes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_codes : Cert.Pre_codes.Facts),
    quiescent_Kernel (hKernel := hKernel)
    ∧ quiescent_KernelIdeal (hKernelIdeal := hKernelIdeal)
    ∧ quiescent_KernelIdeal_pre_codes (hKernelIdeal := hKernelIdeal) (hPre_codes := hPre_codes)
    ∧ quiescent_ReferenceIdeal (hReferenceIdeal := hReferenceIdeal)
    ∧ quiescent_ReferenceIdeal_pre_codes (hReferenceIdeal := hReferenceIdeal) (hPre_codes := hPre_codes)
    ∧ preserves_Kernel_KernelIdeal
    ∧ algebraic_KernelIdeal_ReferenceIdeal_pre_codes (hKernelIdeal := hKernelIdeal) (hReferenceIdeal := hReferenceIdeal) (hPre_codes := hPre_codes)
-- ==== Pre_codes.lean ====
abbrev S256x1x5120 : Shape := ⟨3, ![256, 1, 5120]⟩
abbrev S1024x7168 : Shape := ⟨2, ![1024, 7168]⟩
abbrev S_ : Shape := ⟨0, ![]⟩

class Facts : Prop where
  bcast_S_S1024x7168 : S_.BroadcastsInDim S1024x7168 (![] : Fin 0 → Fin S1024x7168.rank)

variable [Facts]

def fn {F : FTy → Type} [FloatOps F] (main_arg0 : FVec F S256x1x5120 .bf16) (main_arg1 : IVec S1024x7168 8) (main_arg2 : FVec F S_ .f32) : IVec S1024x7168 1 :=
  let main_c : IVec S_ 8 := constantI S_ 8 242#8
  let main_v0 : IVec S1024x7168 8 := broadcastInDim S1024x7168 ![] bcast_S_S1024x7168 main_c
  let main_v1 : IVec S1024x7168 1 := cmpi .ule main_arg1 main_v0
  main_v1
-- ==== Kernel.lean ====
abbrev S256x1x5120 : Shape := ⟨3, ![256, 1, 5120]⟩
abbrev S1024x7168 : Shape := ⟨2, ![1024, 7168]⟩
abbrev S_ : Shape := ⟨0, ![]⟩
abbrev S256x1024x5 : Shape := ⟨3, ![256, 1024, 5]⟩
abbrev S256x5x1024 : Shape := ⟨3, ![256, 5, 1024]⟩
abbrev S256x5120 : Shape := ⟨2, ![256, 5120]⟩
abbrev S1 : Shape := ⟨1, ![1]⟩
abbrev S256x7168 : Shape := ⟨2, ![256, 7168]⟩
abbrev S1024x512 : Shape := ⟨2, ![1024, 512]⟩
abbrev S256x512 : Shape := ⟨2, ![256, 512]⟩
abbrev S256x1024 : Shape := ⟨2, ![256, 1024]⟩
abbrev S256x1x7168 : Shape := ⟨3, ![256, 1, 7168]⟩

abbrev nBuf : Space → Nat
  | .hbm => 9
  | .vmem => 5
  | .smem => 1
  | _ => 0

abbrev bufTy : (tb : Table) → Fin (tcTables nBuf tb) → BufTy
  | .hbm, ⟨0, _⟩ => ⟨S256x1x5120, .bf16⟩
  | .hbm, ⟨1, _⟩ => ⟨S1024x7168, .i8⟩
  | .hbm, ⟨2, _⟩ => ⟨S_, .f32⟩
  | .hbm, ⟨3, _⟩ => ⟨S256x1024x5, .bf16⟩
  | .hbm, ⟨4, _⟩ => ⟨S256x5x1024, .bf16⟩
  | .hbm, ⟨5, _⟩ => ⟨S256x5120, .bf16⟩
  | .hbm, ⟨6, _⟩ => ⟨S1, .f32⟩
  | .hbm, ⟨7, _⟩ => ⟨S256x7168, .bf16⟩
  | .hbm, ⟨8, _⟩ => ⟨S256x1x7168, .bf16⟩
  | .local _ .vmem, ⟨0, _⟩ => ⟨S256x5120, .bf16⟩
  | .local _ .vmem, ⟨1, _⟩ => ⟨S1024x512, .i8⟩
  | .local _ .vmem, ⟨2, _⟩ => ⟨S1024x512, .i8⟩
  | .local _ .vmem, ⟨3, _⟩ => ⟨S256x512, .bf16⟩
  | .local _ .vmem, ⟨4, _⟩ => ⟨S256x512, .bf16⟩
  | .local _ .smem, ⟨0, _⟩ => ⟨S1, .f32⟩
  | _, _ => ⟨S256x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![14], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S256x1x5120 : Shape := ⟨3, ![256, 1, 5120]⟩
abbrev S1024x7168 : Shape := ⟨2, ![1024, 7168]⟩
abbrev S_ : Shape := ⟨0, ![]⟩
abbrev S256x1x1024 : Shape := ⟨3, ![256, 1, 1024]⟩
abbrev S256x1x7168 : Shape := ⟨3, ![256, 1, 7168]⟩

abbrev nBuf : Space → Nat
  | .hbm => 244
  | .vmem => 0
  | .smem => 0
  | _ => 0

abbrev hbmTy0_0 (i : Nat) : BufTy := match i % 128 with
  | 0 => ⟨S256x1x5120, .bf16⟩
  | 1 => ⟨S1024x7168, .i8⟩
  | 2 => ⟨S_, .f32⟩
  | 3 => ⟨S1024x7168, .i32⟩
  | 4 => ⟨S_, .i32⟩
  | 5 => ⟨S_, .bf16⟩
  | 6 => ⟨S256x1x5120, .bf16⟩
  | 7 => ⟨S_, .i32⟩
  | 8 => ⟨S_, .i32⟩
  | 9 => ⟨S1024x7168, .i32⟩
  | 10 => ⟨S1024x7168, .i32⟩
  | 11 => ⟨S1024x7168, .i32⟩
  | 12 => ⟨S_, .i32⟩
  | 13 => ⟨S1024x7168, .i32⟩
  | 14 => ⟨S1024x7168, .i1⟩
  | 15 => ⟨S1024x7168, .i32⟩
  | 16 => ⟨S1024x7168, .i32⟩
  | 17 => ⟨S_, .i32⟩
  | 18 => ⟨S1024x7168, .i32⟩
  | 19 => ⟨S1024x7168, .i1⟩
  | 20 => ⟨S1024x7168, .i1⟩
  | 21 => ⟨S_, .i32⟩
  | 22 => ⟨S1024x7168, .i32⟩
  | 23 => ⟨S1024x7168, .i32⟩
  | 24 => ⟨S1024x7168, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S1024x7168, .i32⟩
  | 32 => ⟨S1024x7168, .i32⟩
  | 33 => ⟨S_, .i32⟩
  | 34 => ⟨S1024x7168, .i32⟩
  | 35 => ⟨S1024x7168, .i1⟩
  | 36 => ⟨S_, .i32⟩
  | 37 => ⟨S1024x7168, .i32⟩
  | 38 => ⟨S1024x7168, .i1⟩
  | 39 => ⟨S_, .i32⟩
  | 40 => ⟨S_, .i1⟩
  | 41 => ⟨S1024x7168, .i1⟩
  | 42 => ⟨S1024x7168, .i1⟩
  | 43 => ⟨S1024x7168, .i1⟩
  | 44 => ⟨S1024x7168, .i32⟩
  | 45 => ⟨S1024x7168, .i32⟩
  | 46 => ⟨S1024x7168, .i32⟩
  | 47 => ⟨S1024x7168, .bf16⟩
  | 48 => ⟨S_, .bf16⟩
  | 49 => ⟨S1024x7168, .bf16⟩
  | 50 => ⟨S1024x7168, .bf16⟩
  | 51 => ⟨S256x1x1024, .bf16⟩
  | 52 => ⟨S256x1x7168, .f32⟩
  | 53 => ⟨S_, .i32⟩
  | 54 => ⟨S_, .i32⟩
  | 55 => ⟨S1024x7168, .i32⟩
  | 56 => ⟨S1024x7168, .i32⟩
  | 57 => ⟨S1024x7168, .i32⟩
  | 58 => ⟨S_, .i32⟩
  | 59 => ⟨S1024x7168, .i32⟩
  | 60 => ⟨S1024x7168, .i1⟩
  | 61 => ⟨S1024x7168, .i32⟩
  | 62 => ⟨S1024x7168, .i32⟩
  | 63 => ⟨S_, .i32⟩
  | 64 => ⟨S1024x7168, .i32⟩
  | 65 => ⟨S1024x7168, .i1⟩
  | 66 => ⟨S1024x7168, .i1⟩
  | 67 => ⟨S_, .i32⟩
  | 68 => ⟨S1024x7168, .i32⟩
  | 69 => ⟨S1024x7168, .i32⟩
  | 70 => ⟨S1024x7168, .i32⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S1024x7168, .i32⟩
  | 78 => ⟨S1024x7168, .i32⟩
  | 79 => ⟨S_, .i32⟩
  | 80 => ⟨S1024x7168, .i32⟩
  | 81 => ⟨S1024x7168, .i1⟩
  | 82 => ⟨S_, .i32⟩
  | 83 => ⟨S1024x7168, .i32⟩
  | 84 => ⟨S1024x7168, .i1⟩
  | 85 => ⟨S_, .i32⟩
  | 86 => ⟨S_, .i1⟩
  | 87 => ⟨S1024x7168, .i1⟩
  | 88 => ⟨S1024x7168, .i1⟩
  | 89 => ⟨S1024x7168, .i1⟩
  | 90 => ⟨S1024x7168, .i32⟩
  | 91 => ⟨S1024x7168, .i32⟩
  | 92 => ⟨S1024x7168, .i32⟩
  | 93 => ⟨S1024x7168, .bf16⟩
  | 94 => ⟨S_, .bf16⟩
  | 95 => ⟨S1024x7168, .bf16⟩
  | 96 => ⟨S1024x7168, .bf16⟩
  | 97 => ⟨S256x1x1024, .bf16⟩
  | 98 => ⟨S256x1x7168, .f32⟩
  | 99 => ⟨S256x1x7168, .f32⟩
  | 100 => ⟨S_, .i32⟩
  | 101 => ⟨S_, .i32⟩
  | 102 => ⟨S1024x7168, .i32⟩
  | 103 => ⟨S1024x7168, .i32⟩
  | 104 => ⟨S1024x7168, .i32⟩
  | 105 => ⟨S_, .i32⟩
  | 106 => ⟨S1024x7168, .i32⟩
  | 107 => ⟨S1024x7168, .i1⟩
  | 108 => ⟨S1024x7168, .i32⟩
  | 109 => ⟨S1024x7168, .i32⟩
  | 110 => ⟨S_, .i32⟩
  | 111 => ⟨S1024x7168, .i32⟩
  | 112 => ⟨S1024x7168, .i1⟩
  | 113 => ⟨S1024x7168, .i1⟩
  | 114 => ⟨S_, .i32⟩
  | 115 => ⟨S1024x7168, .i32⟩
  | 116 => ⟨S1024x7168, .i32⟩
  | 117 => ⟨S1024x7168, .i32⟩
  | 118 => ⟨S_, .i32⟩
  | 119 => ⟨S_, .i32⟩
  | 120 => ⟨S_, .i32⟩
  | 121 => ⟨S_, .i1⟩
  | 122 => ⟨S_, .i32⟩
  | 123 => ⟨S_, .i32⟩
  | 124 => ⟨S1024x7168, .i32⟩
  | 125 => ⟨S1024x7168, .i32⟩
  | 126 => ⟨S_, .i32⟩
  | 127 => ⟨S1024x7168, .i32⟩
  | _ => ⟨S256x1x5120, .bf16⟩

abbrev hbmTy0_1 (i : Nat) : BufTy := match i % 128 with
  | 0 => ⟨S1024x7168, .i1⟩
  | 1 => ⟨S_, .i32⟩
  | 2 => ⟨S1024x7168, .i32⟩
  | 3 => ⟨S1024x7168, .i1⟩
  | 4 => ⟨S_, .i32⟩
  | 5 => ⟨S_, .i1⟩
  | 6 => ⟨S1024x7168, .i1⟩
  | 7 => ⟨S1024x7168, .i1⟩
  | 8 => ⟨S1024x7168, .i1⟩
  | 9 => ⟨S1024x7168, .i32⟩
  | 10 => ⟨S1024x7168, .i32⟩
  | 11 => ⟨S1024x7168, .i32⟩
  | 12 => ⟨S1024x7168, .bf16⟩
  | 13 => ⟨S_, .bf16⟩
  | 14 => ⟨S1024x7168, .bf16⟩
  | 15 => ⟨S1024x7168, .bf16⟩
  | 16 => ⟨S256x1x1024, .bf16⟩
  | 17 => ⟨S256x1x7168, .f32⟩
  | 18 => ⟨S256x1x7168, .f32⟩
  | 19 => ⟨S_, .i32⟩
  | 20 => ⟨S_, .i32⟩
  | 21 => ⟨S1024x7168, .i32⟩
  | 22 => ⟨S1024x7168, .i32⟩
  | 23 => ⟨S1024x7168, .i32⟩
  | 24 => ⟨S_, .i32⟩
  | 25 => ⟨S1024x7168, .i32⟩
  | 26 => ⟨S1024x7168, .i1⟩
  | 27 => ⟨S1024x7168, .i32⟩
  | 28 => ⟨S1024x7168, .i32⟩
  | 29 => ⟨S_, .i32⟩
  | 30 => ⟨S1024x7168, .i32⟩
  | 31 => ⟨S1024x7168, .i1⟩
  | 32 => ⟨S1024x7168, .i1⟩
  | 33 => ⟨S_, .i32⟩
  | 34 => ⟨S1024x7168, .i32⟩
  | 35 => ⟨S1024x7168, .i32⟩
  | 36 => ⟨S1024x7168, .i32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S1024x7168, .i32⟩
  | 44 => ⟨S1024x7168, .i32⟩
  | 45 => ⟨S_, .i32⟩
  | 46 => ⟨S1024x7168, .i32⟩
  | 47 => ⟨S1024x7168, .i1⟩
  | 48 => ⟨S_, .i32⟩
  | 49 => ⟨S1024x7168, .i32⟩
  | 50 => ⟨S1024x7168, .i1⟩
  | 51 => ⟨S_, .i32⟩
  | 52 => ⟨S_, .i1⟩
  | 53 => ⟨S1024x7168, .i1⟩
  | 54 => ⟨S1024x7168, .i1⟩
  | 55 => ⟨S1024x7168, .i1⟩
  | 56 => ⟨S1024x7168, .i32⟩
  | 57 => ⟨S1024x7168, .i32⟩
  | 58 => ⟨S1024x7168, .i32⟩
  | 59 => ⟨S1024x7168, .bf16⟩
  | 60 => ⟨S_, .bf16⟩
  | 61 => ⟨S1024x7168, .bf16⟩
  | 62 => ⟨S1024x7168, .bf16⟩
  | 63 => ⟨S256x1x1024, .bf16⟩
  | 64 => ⟨S256x1x7168, .f32⟩
  | 65 => ⟨S256x1x7168, .f32⟩
  | 66 => ⟨S_, .i32⟩
  | 67 => ⟨S_, .i32⟩
  | 68 => ⟨S1024x7168, .i32⟩
  | 69 => ⟨S1024x7168, .i32⟩
  | 70 => ⟨S1024x7168, .i32⟩
  | 71 => ⟨S_, .i32⟩
  | 72 => ⟨S1024x7168, .i32⟩
  | 73 => ⟨S1024x7168, .i1⟩
  | 74 => ⟨S1024x7168, .i32⟩
  | 75 => ⟨S1024x7168, .i32⟩
  | 76 => ⟨S_, .i32⟩
  | 77 => ⟨S1024x7168, .i32⟩
  | 78 => ⟨S1024x7168, .i1⟩
  | 79 => ⟨S1024x7168, .i1⟩
  | 80 => ⟨S_, .i32⟩
  | 81 => ⟨S1024x7168, .i32⟩
  | 82 => ⟨S1024x7168, .i32⟩
  | 83 => ⟨S1024x7168, .i32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S1024x7168, .i32⟩
  | 91 => ⟨S1024x7168, .i32⟩
  | 92 => ⟨S_, .i32⟩
  | 93 => ⟨S1024x7168, .i32⟩
  | 94 => ⟨S1024x7168, .i1⟩
  | 95 => ⟨S_, .i32⟩
  | 96 => ⟨S1024x7168, .i32⟩
  | 97 => ⟨S1024x7168, .i1⟩
  | 98 => ⟨S_, .i32⟩
  | 99 => ⟨S_, .i1⟩
  | 100 => ⟨S1024x7168, .i1⟩
  | 101 => ⟨S1024x7168, .i1⟩
  | 102 => ⟨S1024x7168, .i1⟩
  | 103 => ⟨S1024x7168, .i32⟩
  | 104 => ⟨S1024x7168, .i32⟩
  | 105 => ⟨S1024x7168, .i32⟩
  | 106 => ⟨S1024x7168, .bf16⟩
  | 107 => ⟨S_, .bf16⟩
  | 108 => ⟨S1024x7168, .bf16⟩
  | 109 => ⟨S1024x7168, .bf16⟩
  | 110 => ⟨S256x1x1024, .bf16⟩
  | 111 => ⟨S256x1x7168, .f32⟩
  | 112 => ⟨S256x1x7168, .f32⟩
  | 113 => ⟨S256x1x7168, .f32⟩
  | 114 => ⟨S256x1x7168, .f32⟩
  | 115 => ⟨S256x1x7168, .bf16⟩
  | _ => ⟨S256x1x5120, .bf16⟩

abbrev hbmTy (i : Nat) : BufTy := match i / 128 with
  | 0 => hbmTy0_0 i
  | 1 => hbmTy0_1 i
  | _ => ⟨S256x1x5120, .bf16⟩

abbrev bufTy : (tb : Table) → Fin (tcTables nBuf tb) → BufTy
  | .hbm, ⟨i, _⟩ => hbmTy i
  | _, _ => ⟨S256x1x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_call1_v1 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_v6 : Ref sig .tc := ⟨.hbm, 14, rfl⟩
abbrev main_call1_v7 : Ref sig .tc := ⟨.hbm, 15, rfl⟩
abbrev main_call1_v8 : Ref sig .tc := ⟨.hbm, 16, rfl⟩
abbrev main_call1_c : Ref sig .tc := ⟨.hbm, 17, rfl⟩
abbrev main_call1_v9 : Ref sig .tc := ⟨.hbm, 18, rfl⟩
abbrev main_call1_v10 : Ref sig .tc := ⟨.hbm, 19, rfl⟩
abbrev main_call1_v11 : Ref sig .tc := ⟨.hbm, 20, rfl⟩
abbrev main_call1_c_0 : Ref sig .tc := ⟨.hbm, 21, rfl⟩
abbrev main_call1_v12 : Ref sig .tc := ⟨.hbm, 22, rfl⟩
abbrev main_call1_v13 : Ref sig .tc := ⟨.hbm, 23, rfl⟩
abbrev main_v2 : Ref sig .tc := ⟨.hbm, 24, rfl⟩
abbrev main_c_1 : Ref sig .tc := ⟨.hbm, 25, rfl⟩
abbrev main_call2_v0 : Ref sig .tc := ⟨.hbm, 26, rfl⟩
abbrev main_call2_c : Ref sig .tc := ⟨.hbm, 27, rfl⟩
abbrev main_call2_v1 : Ref sig .tc := ⟨.hbm, 28, rfl⟩
abbrev main_call2_c_0 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_call2_c_1 : Ref sig .tc := ⟨.hbm, 33, rfl⟩
abbrev main_call2_v5 : Ref sig .tc := ⟨.hbm, 34, rfl⟩
abbrev main_call2_v6 : Ref sig .tc := ⟨.hbm, 35, rfl⟩
abbrev main_call2_c_2 : Ref sig .tc := ⟨.hbm, 36, rfl⟩
abbrev main_call2_v7 : Ref sig .tc := ⟨.hbm, 37, rfl⟩
abbrev main_call2_v8 : Ref sig .tc := ⟨.hbm, 38, rfl⟩
abbrev main_call2_c_3 : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_v12 : Ref sig .tc := ⟨.hbm, 43, rfl⟩
abbrev main_call2_v13 : Ref sig .tc := ⟨.hbm, 44, rfl⟩
abbrev main_call2_v14 : Ref sig .tc := ⟨.hbm, 45, rfl⟩
abbrev main_v3 : Ref sig .tc := ⟨.hbm, 46, rfl⟩
abbrev main_v4 : Ref sig .tc := ⟨.hbm, 47, rfl⟩
abbrev main_cst : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_c_2 : Ref sig .tc := ⟨.hbm, 53, rfl⟩
abbrev main_call3_v0 : Ref sig .tc := ⟨.hbm, 54, rfl⟩
abbrev main_call3_v1 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_call3_v5 : Ref sig .tc := ⟨.hbm, 59, rfl⟩
abbrev main_call3_v6 : Ref sig .tc := ⟨.hbm, 60, rfl⟩
abbrev main_call3_v7 : Ref sig .tc := ⟨.hbm, 61, rfl⟩
abbrev main_call3_v8 : Ref sig .tc := ⟨.hbm, 62, rfl⟩
abbrev main_call3_c : Ref sig .tc := ⟨.hbm, 63, rfl⟩
abbrev main_call3_v9 : Ref sig .tc := ⟨.hbm, 64, rfl⟩
abbrev main_call3_v10 : Ref sig .tc := ⟨.hbm, 65, rfl⟩
abbrev main_call3_v11 : Ref sig .tc := ⟨.hbm, 66, rfl⟩
abbrev main_call3_c_0 : Ref sig .tc := ⟨.hbm, 67, rfl⟩
abbrev main_call3_v12 : Ref sig .tc := ⟨.hbm, 68, rfl⟩
abbrev main_call3_v13 : Ref sig .tc := ⟨.hbm, 69, rfl⟩
abbrev main_v9 : Ref sig .tc := ⟨.hbm, 70, rfl⟩
abbrev main_c_3 : Ref sig .tc := ⟨.hbm, 71, rfl⟩
abbrev main_call4_v0 : Ref sig .tc := ⟨.hbm, 72, rfl⟩
abbrev main_call4_c : Ref sig .tc := ⟨.hbm, 73, rfl⟩
abbrev main_call4_v1 : Ref sig .tc := ⟨.hbm, 74, rfl⟩
abbrev main_call4_c_0 : Ref sig .tc := ⟨.hbm, 75, rfl⟩
abbrev main_call4_v2 : Ref sig .tc := ⟨.hbm, 76, rfl⟩
abbrev main_call4_v3 : Ref sig .tc := ⟨.hbm, 77, rfl⟩
abbrev main_call4_v4 : Ref sig .tc := ⟨.hbm, 78, rfl⟩
abbrev main_call4_c_1 : Ref sig .tc := ⟨.hbm, 79, rfl⟩
abbrev main_call4_v5 : Ref sig .tc := ⟨.hbm, 80, rfl⟩
abbrev main_call4_v6 : Ref sig .tc := ⟨.hbm, 81, rfl⟩
abbrev main_call4_c_2 : Ref sig .tc := ⟨.hbm, 82, rfl⟩
abbrev main_call4_v7 : Ref sig .tc := ⟨.hbm, 83, rfl⟩
abbrev main_call4_v8 : Ref sig .tc := ⟨.hbm, 84, rfl⟩
abbrev main_call4_c_3 : Ref sig .tc := ⟨.hbm, 85, rfl⟩
abbrev main_call4_v9 : Ref sig .tc := ⟨.hbm, 86, rfl⟩
abbrev main_call4_v10 : Ref sig .tc := ⟨.hbm, 87, rfl⟩
abbrev main_call4_v11 : Ref sig .tc := ⟨.hbm, 88, rfl⟩
abbrev main_call4_v12 : Ref sig .tc := ⟨.hbm, 89, rfl⟩
abbrev main_call4_v13 : Ref sig .tc := ⟨.hbm, 90, rfl⟩
abbrev main_call4_v14 : Ref sig .tc := ⟨.hbm, 91, rfl⟩
abbrev main_v10 : Ref sig .tc := ⟨.hbm, 92, rfl⟩
abbrev main_v11 : Ref sig .tc := ⟨.hbm, 93, rfl⟩
abbrev main_cst_4 : Ref sig .tc := ⟨.hbm, 94, rfl⟩
abbrev main_v12 : Ref sig .tc := ⟨.hbm, 95, rfl⟩
abbrev main_v13 : Ref sig .tc := ⟨.hbm, 96, rfl⟩
abbrev main_v14 : Ref sig .tc := ⟨.hbm, 97, rfl⟩
abbrev main_v15 : Ref sig .tc := ⟨.hbm, 98, rfl⟩
abbrev main_v16 : Ref sig .tc := ⟨.hbm, 99, rfl⟩
abbrev main_c_5 : Ref sig .tc := ⟨.hbm, 100, rfl⟩
abbrev main_call5_v0 : Ref sig .tc := ⟨.hbm, 101, rfl⟩
abbrev main_call5_v1 : Ref sig .tc := ⟨.hbm, 102, rfl⟩
abbrev main_call5_v2 : Ref sig .tc := ⟨.hbm, 103, rfl⟩
abbrev main_call5_v3 : Ref sig .tc := ⟨.hbm, 104, rfl⟩
abbrev main_call5_v4 : Ref sig .tc := ⟨.hbm, 105, rfl⟩
abbrev main_call5_v5 : Ref sig .tc := ⟨.hbm, 106, rfl⟩
abbrev main_call5_v6 : Ref sig .tc := ⟨.hbm, 107, rfl⟩
abbrev main_call5_v7 : Ref sig .tc := ⟨.hbm, 108, rfl⟩
abbrev main_call5_v8 : Ref sig .tc := ⟨.hbm, 109, rfl⟩
abbrev main_call5_c : Ref sig .tc := ⟨.hbm, 110, rfl⟩
abbrev main_call5_v9 : Ref sig .tc := ⟨.hbm, 111, rfl⟩
abbrev main_call5_v10 : Ref sig .tc := ⟨.hbm, 112, rfl⟩
abbrev main_call5_v11 : Ref sig .tc := ⟨.hbm, 113, rfl⟩
abbrev main_call5_c_0 : Ref sig .tc := ⟨.hbm, 114, rfl⟩
abbrev main_call5_v12 : Ref sig .tc := ⟨.hbm, 115, rfl⟩
abbrev main_call5_v13 : Ref sig .tc := ⟨.hbm, 116, rfl⟩
abbrev main_v17 : Ref sig .tc := ⟨.hbm, 117, rfl⟩
abbrev main_c_6 : Ref sig .tc := ⟨.hbm, 118, rfl⟩
abbrev main_call6_v0 : Ref sig .tc := ⟨.hbm, 119, rfl⟩
abbrev main_call6_c : Ref sig .tc := ⟨.hbm, 120, rfl⟩
abbrev main_call6_v1 : Ref sig .tc := ⟨.hbm, 121, rfl⟩
abbrev main_call6_c_0 : Ref sig .tc := ⟨.hbm, 122, rfl⟩
abbrev main_call6_v2 : Ref sig .tc := ⟨.hbm, 123, rfl⟩
abbrev main_call6_v3 : Ref sig .tc := ⟨.hbm, 124, rfl⟩
abbrev main_call6_v4 : Ref sig .tc := ⟨.hbm, 125, rfl⟩
abbrev main_call6_c_1 : Ref sig .tc := ⟨.hbm, 126, rfl⟩
abbrev main_call6_v5 : Ref sig .tc := ⟨.hbm, 127, rfl⟩
abbrev main_call6_v6 : Ref sig .tc := ⟨.hbm, 128, rfl⟩
abbrev main_call6_c_2 : Ref sig .tc := ⟨.hbm, 129, rfl⟩
abbrev main_call6_v7 : Ref sig .tc := ⟨.hbm, 130, rfl⟩
abbrev main_call6_v8 : Ref sig .tc := ⟨.hbm, 131, rfl⟩
abbrev main_call6_c_3 : Ref sig .tc := ⟨.hbm, 132, rfl⟩
abbrev main_call6_v9 : Ref sig .tc := ⟨.hbm, 133, rfl⟩
abbrev main_call6_v10 : Ref sig .tc := ⟨.hbm, 134, rfl⟩
abbrev main_call6_v11 : Ref sig .tc := ⟨.hbm, 135, rfl⟩
abbrev main_call6_v12 : Ref sig .tc := ⟨.hbm, 136, rfl⟩
abbrev main_call6_v13 : Ref sig .tc := ⟨.hbm, 137, rfl⟩
abbrev main_call6_v14 : Ref sig .tc := ⟨.hbm, 138, rfl⟩
abbrev main_v18 : Ref sig .tc := ⟨.hbm, 139, rfl⟩
abbrev main_v19 : Ref sig .tc := ⟨.hbm, 140, rfl⟩
abbrev main_cst_7 : Ref sig .tc := ⟨.hbm, 141, rfl⟩
abbrev main_v20 : Ref sig .tc := ⟨.hbm, 142, rfl⟩
abbrev main_v21 : Ref sig .tc := ⟨.hbm, 143, rfl⟩
abbrev main_v22 : Ref sig .tc := ⟨.hbm, 144, rfl⟩
abbrev main_v23 : Ref sig .tc := ⟨.hbm, 145, rfl⟩
abbrev main_v24 : Ref sig .tc := ⟨.hbm, 146, rfl⟩
abbrev main_c_8 : Ref sig .tc := ⟨.hbm, 147, rfl⟩
abbrev main_call7_v0 : Ref sig .tc := ⟨.hbm, 148, rfl⟩
abbrev main_call7_v1 : Ref sig .tc := ⟨.hbm, 149, rfl⟩
abbrev main_call7_v2 : Ref sig .tc := ⟨.hbm, 150, rfl⟩
abbrev main_call7_v3 : Ref sig .tc := ⟨.hbm, 151, rfl⟩
abbrev main_call7_v4 : Ref sig .tc := ⟨.hbm, 152, rfl⟩
abbrev main_call7_v5 : Ref sig .tc := ⟨.hbm, 153, rfl⟩
abbrev main_call7_v6 : Ref sig .tc := ⟨.hbm, 154, rfl⟩
abbrev main_call7_v7 : Ref sig .tc := ⟨.hbm, 155, rfl⟩
abbrev main_call7_v8 : Ref sig .tc := ⟨.hbm, 156, rfl⟩
abbrev main_call7_c : Ref sig .tc := ⟨.hbm, 157, rfl⟩
abbrev main_call7_v9 : Ref sig .tc := ⟨.hbm, 158, rfl⟩
abbrev main_call7_v10 : Ref sig .tc := ⟨.hbm, 159, rfl⟩
abbrev main_call7_v11 : Ref sig .tc := ⟨.hbm, 160, rfl⟩
abbrev main_call7_c_0 : Ref sig .tc := ⟨.hbm, 161, rfl⟩
abbrev main_call7_v12 : Ref sig .tc := ⟨.hbm, 162, rfl⟩
abbrev main_call7_v13 : Ref sig .tc := ⟨.hbm, 163, rfl⟩
abbrev main_v25 : Ref sig .tc := ⟨.hbm, 164, rfl⟩
abbrev main_c_9 : Ref sig .tc := ⟨.hbm, 165, rfl⟩
abbrev main_call8_v0 : Ref sig .tc := ⟨.hbm, 166, rfl⟩
abbrev main_call8_c : Ref sig .tc := ⟨.hbm, 167, rfl⟩
abbrev main_call8_v1 : Ref sig .tc := ⟨.hbm, 168, rfl⟩
abbrev main_call8_c_0 : Ref sig .tc := ⟨.hbm, 169, rfl⟩
abbrev main_call8_v2 : Ref sig .tc := ⟨.hbm, 170, rfl⟩
abbrev main_call8_v3 : Ref sig .tc := ⟨.hbm, 171, rfl⟩
abbrev main_call8_v4 : Ref sig .tc := ⟨.hbm, 172, rfl⟩
abbrev main_call8_c_1 : Ref sig .tc := ⟨.hbm, 173, rfl⟩
abbrev main_call8_v5 : Ref sig .tc := ⟨.hbm, 174, rfl⟩
abbrev main_call8_v6 : Ref sig .tc := ⟨.hbm, 175, rfl⟩
abbrev main_call8_c_2 : Ref sig .tc := ⟨.hbm, 176, rfl⟩
abbrev main_call8_v7 : Ref sig .tc := ⟨.hbm, 177, rfl⟩
abbrev main_call8_v8 : Ref sig .tc := ⟨.hbm, 178, rfl⟩
abbrev main_call8_c_3 : Ref sig .tc := ⟨.hbm, 179, rfl⟩
abbrev main_call8_v9 : Ref sig .tc := ⟨.hbm, 180, rfl⟩
abbrev main_call8_v10 : Ref sig .tc := ⟨.hbm, 181, rfl⟩
abbrev main_call8_v11 : Ref sig .tc := ⟨.hbm, 182, rfl⟩
abbrev main_call8_v12 : Ref sig .tc := ⟨.hbm, 183, rfl⟩
abbrev main_call8_v13 : Ref sig .tc := ⟨.hbm, 184, rfl⟩
abbrev main_call8_v14 : Ref sig .tc := ⟨.hbm, 185, rfl⟩
abbrev main_v26 : Ref sig .tc := ⟨.hbm, 186, rfl⟩
abbrev main_v27 : Ref sig .tc := ⟨.hbm, 187, rfl⟩
abbrev main_cst_10 : Ref sig .tc := ⟨.hbm, 188, rfl⟩
abbrev main_v28 : Ref sig .tc := ⟨.hbm, 189, rfl⟩
abbrev main_v29 : Ref sig .tc := ⟨.hbm, 190, rfl⟩
abbrev main_v30 : Ref sig .tc := ⟨.hbm, 191, rfl⟩
abbrev main_v31 : Ref sig .tc := ⟨.hbm, 192, rfl⟩
abbrev main_v32 : Ref sig .tc := ⟨.hbm, 193, rfl⟩
abbrev main_c_11 : Ref sig .tc := ⟨.hbm, 194, rfl⟩
abbrev main_call9_v0 : Ref sig .tc := ⟨.hbm, 195, rfl⟩
abbrev main_call9_v1 : Ref sig .tc := ⟨.hbm, 196, rfl⟩
abbrev main_call9_v2 : Ref sig .tc := ⟨.hbm, 197, rfl⟩
abbrev main_call9_v3 : Ref sig .tc := ⟨.hbm, 198, rfl⟩
abbrev main_call9_v4 : Ref sig .tc := ⟨.hbm, 199, rfl⟩
abbrev main_call9_v5 : Ref sig .tc := ⟨.hbm, 200, rfl⟩
abbrev main_call9_v6 : Ref sig .tc := ⟨.hbm, 201, rfl⟩
abbrev main_call9_v7 : Ref sig .tc := ⟨.hbm, 202, rfl⟩
abbrev main_call9_v8 : Ref sig .tc := ⟨.hbm, 203, rfl⟩
abbrev main_call9_c : Ref sig .tc := ⟨.hbm, 204, rfl⟩
abbrev main_call9_v9 : Ref sig .tc := ⟨.hbm, 205, rfl⟩
abbrev main_call9_v10 : Ref sig .tc := ⟨.hbm, 206, rfl⟩
abbrev main_call9_v11 : Ref sig .tc := ⟨.hbm, 207, rfl⟩
abbrev main_call9_c_0 : Ref sig .tc := ⟨.hbm, 208, rfl⟩
abbrev main_call9_v12 : Ref sig .tc := ⟨.hbm, 209, rfl⟩
abbrev main_call9_v13 : Ref sig .tc := ⟨.hbm, 210, rfl⟩
abbrev main_v33 : Ref sig .tc := ⟨.hbm, 211, rfl⟩
abbrev main_c_12 : Ref sig .tc := ⟨.hbm, 212, rfl⟩
abbrev main_call10_v0 : Ref sig .tc := ⟨.hbm, 213, rfl⟩
abbrev main_call10_c : Ref sig .tc := ⟨.hbm, 214, rfl⟩
abbrev main_call10_v1 : Ref sig .tc := ⟨.hbm, 215, rfl⟩
abbrev main_call10_c_0 : Ref sig .tc := ⟨.hbm, 216, rfl⟩
abbrev main_call10_v2 : Ref sig .tc := ⟨.hbm, 217, rfl⟩
abbrev main_call10_v3 : Ref sig .tc := ⟨.hbm, 218, rfl⟩
abbrev main_call10_v4 : Ref sig .tc := ⟨.hbm, 219, rfl⟩
abbrev main_call10_c_1 : Ref sig .tc := ⟨.hbm, 220, rfl⟩
abbrev main_call10_v5 : Ref sig .tc := ⟨.hbm, 221, rfl⟩
abbrev main_call10_v6 : Ref sig .tc := ⟨.hbm, 222, rfl⟩
abbrev main_call10_c_2 : Ref sig .tc := ⟨.hbm, 223, rfl⟩
abbrev main_call10_v7 : Ref sig .tc := ⟨.hbm, 224, rfl⟩
abbrev main_call10_v8 : Ref sig .tc := ⟨.hbm, 225, rfl⟩
abbrev main_call10_c_3 : Ref sig .tc := ⟨.hbm, 226, rfl⟩
abbrev main_call10_v9 : Ref sig .tc := ⟨.hbm, 227, rfl⟩
abbrev main_call10_v10 : Ref sig .tc := ⟨.hbm, 228, rfl⟩
abbrev main_call10_v11 : Ref sig .tc := ⟨.hbm, 229, rfl⟩
abbrev main_call10_v12 : Ref sig .tc := ⟨.hbm, 230, rfl⟩
abbrev main_call10_v13 : Ref sig .tc := ⟨.hbm, 231, rfl⟩
abbrev main_call10_v14 : Ref sig .tc := ⟨.hbm, 232, rfl⟩
abbrev main_v34 : Ref sig .tc := ⟨.hbm, 233, rfl⟩
abbrev main_v35 : Ref sig .tc := ⟨.hbm, 234, rfl⟩
abbrev main_cst_13 : Ref sig .tc := ⟨.hbm, 235, rfl⟩
abbrev main_v36 : Ref sig .tc := ⟨.hbm, 236, rfl⟩
abbrev main_v37 : Ref sig .tc := ⟨.hbm, 237, rfl⟩
abbrev main_v38 : Ref sig .tc := ⟨.hbm, 238, rfl⟩
abbrev main_v39 : Ref sig .tc := ⟨.hbm, 239, rfl⟩
abbrev main_v40 : Ref sig .tc := ⟨.hbm, 240, rfl⟩
abbrev main_v41 : Ref sig .tc := ⟨.hbm, 241, rfl⟩
abbrev main_v42 : Ref sig .tc := ⟨.hbm, 242, rfl⟩
abbrev main_v43 : Ref sig .tc := ⟨.hbm, 243, rfl⟩

abbrev nD : Nat := 1
abbrev τ : Topo := Topo.v7x

variable {F : FTy → Type} [FloatOps F]
-- ==== Proof.Decode.lean ====
/- Decoding one packed byte over the extended reals. A byte `b ≤ 242` holds five base-3 digits `b / 3^j % 3`, and its
   trits are those digits minus one. The kernel finds the same trits from the top down: it subtracts 121, then four
   times multiplies by a rounded reciprocal of a power of three, rounds to the nearest integer, and subtracts that
   multiple of the power. Every quantity is an integer or a dyadic rational within reach of one, so the roundings are
   decided over the 243 bytes. -/
module

public import Idealize.ShloMosaic.PureOps.Ideal
public import Idealize.ShloMosaic.PureOps.Ideal.Laws

@[expose] public section

noncomputable section

namespace Cert.Decode

open Idealize.ShloMosaic

/-- Trit `j` of the byte value `n`: its base-3 digit `j`, minus one. -/
def trit (j n : ℕ) : ℤ := ((n / 3 ^ j % 3 : ℕ) : ℤ) - 1

/-- An integer as an extended real. -/
abbrev real (z : ℤ) : EReal := ((z : ℝ) : EReal)

/-- Rounding to the nearest integer, as the kernel's `roundeven` reads over the extended reals. -/
abbrev rnd : EReal → EReal := Ideal.liftRound Ideal.roundHalfEven

/-- A real number closer than one half to an integer rounds to that integer. -/
theorem roundHalfEven_eq (r : ℝ) (n : ℤ) (lo : (n : ℝ) - 1 / 2 < r) (hi : r < (n : ℝ) + 1 / 2) :
    Ideal.roundHalfEven r = n := by
  unfold Ideal.roundHalfEven
  by_cases h : (n : ℝ) ≤ r
  · have hf : ⌊r⌋ = n := Int.floor_eq_iff.mpr ⟨h, by linarith⟩
    simp only [hf]
    rw [if_pos (by linarith)]
  · have hf : ⌊r⌋ = n - 1 := Int.floor_eq_iff.mpr ⟨by push_cast; linarith, by push_cast; linarith⟩
    simp only [hf]
    push_cast
    rw [if_neg (by linarith), if_pos (by linarith)]
    omega

/-- An integer `z` times the dyadic rational `p / q` rounds to `n` when `|2 z p - 2 n q| < q`. -/
theorem rnd_mul (z n p q : ℤ) (hq : 0 < q) (lo : 2 * n * q - q < 2 * z * p) (hi : 2 * z * p < 2 * n * q + q) :
    rnd (real z * (((p : ℝ) / (q : ℝ) : ℝ) : EReal)) = real n := by
  have hq' : (0 : ℝ) < q := by exact_mod_cast hq
  have lo' : 2 * (n : ℝ) * q - q < 2 * z * p := by exact_mod_cast lo
  have hi' : 2 * (z : ℝ) * p < 2 * n * q + q := by exact_mod_cast hi
  rw [real, ← EReal.coe_mul, rnd, Ideal.liftRound_coe, roundHalfEven_eq _ n]
  · rw [mul_div_assoc', lt_div_iff₀ hq']; nlinarith
  · rw [mul_div_assoc', div_lt_iff₀ hq']; nlinarith

/-- An integer minus a multiple of an integer, as extended reals. -/
theorem real_sub_mul (z n k : ℤ) : real z - real n * real k = real (z - n * k) := by
  simp only [real]; push_cast; rfl

/-! ## The kernel's constants -/

theorem c121 : Ideal.ofBits .bf16 0x42F2#16 = real 121 := by
  simp [Ideal.ofBits, Ideal.ieee, -EReal.coe_mul]; norm_num
theorem c81 : Ideal.ofBits .bf16 0x42A2#16 = real 81 := by
  simp [Ideal.ofBits, Ideal.ieee, -EReal.coe_mul]; norm_num
theorem c27 : Ideal.ofBits .bf16 0x41D8#16 = real 27 := by
  simp [Ideal.ofBits, Ideal.ieee, -EReal.coe_mul]; norm_num
theorem c9 : Ideal.ofBits .bf16 0x4110#16 = real 9 := by
  simp [Ideal.ofBits, Ideal.ieee, -EReal.coe_mul]; norm_num
theorem c3 : Ideal.ofBits .bf16 0x4040#16 = real 3 := by
  simp [Ideal.ofBits, Ideal.ieee, -EReal.coe_mul]; norm_num
theorem r81 : Ideal.ofBits .bf16 0x3C4A#16 = ((((202 : ℤ) : ℝ) / ((16384 : ℤ) : ℝ) : ℝ) : EReal) := by
  simp [Ideal.ofBits, Ideal.ieee, -EReal.coe_mul]; norm_num
theorem r27 : Ideal.ofBits .bf16 0x3D18#16 = ((((152 : ℤ) : ℝ) / ((4096 : ℤ) : ℝ) : ℝ) : EReal) := by
  simp [Ideal.ofBits, Ideal.ieee, -EReal.coe_mul]; norm_num
theorem r9 : Ideal.ofBits .bf16 0x3DE3#16 = ((((227 : ℤ) : ℝ) / ((2048 : ℤ) : ℝ) : ℝ) : EReal) := by
  simp [Ideal.ofBits, Ideal.ieee, -EReal.coe_mul]; norm_num
theorem r3 : Ideal.ofBits .bf16 0x3EAB#16 = ((((171 : ℤ) : ℝ) / ((512 : ℤ) : ℝ) : ℝ) : EReal) := by
  simp [Ideal.ofBits, Ideal.ieee, -EReal.coe_mul]; norm_num

/-! ## The kernel's digits of one byte, as its operations compute them -/

/-- What is left before the digit of weight 81: the byte minus 121. -/
def rest4 (b : BitVec 8) : EReal := ((b.toNat : ℝ) : EReal) - Ideal.ofBits .bf16 0x42F2#16
/-- The digit of weight 81. -/
def dig4 (b : BitVec 8) : EReal := rnd (rest4 b * Ideal.ofBits .bf16 0x3C4A#16)
/-- What is left before the digit of weight 27. -/
def rest3 (b : BitVec 8) : EReal := rest4 b - dig4 b * Ideal.ofBits .bf16 0x42A2#16
/-- The digit of weight 27. -/
def dig3 (b : BitVec 8) : EReal := rnd (rest3 b * Ideal.ofBits .bf16 0x3D18#16)
/-- What is left before the digit of weight 9. -/
def rest2 (b : BitVec 8) : EReal := rest3 b - dig3 b * Ideal.ofBits .bf16 0x41D8#16
/-- The digit of weight 9. -/
def dig2 (b : BitVec 8) : EReal := rnd (rest2 b * Ideal.ofBits .bf16 0x3DE3#16)
/-- What is left before the digit of weight 3. -/
def rest1 (b : BitVec 8) : EReal := rest2 b - dig2 b * Ideal.ofBits .bf16 0x4110#16
/-- The digit of weight 3. -/
def dig1 (b : BitVec 8) : EReal := rnd (rest1 b * Ideal.ofBits .bf16 0x3EAB#16)
/-- The digit of weight 1: what is left at the end. -/
def dig0 (b : BitVec 8) : EReal := rest1 b - dig1 b * Ideal.ofBits .bf16 0x4040#16

/-- The kernel's digit of weight `3^j`. -/
def dig (j : Fin 5) (b : BitVec 8) : EReal := ![dig0 b, dig1 b, dig2 b, dig3 b, dig4 b] j

/-- The integer left before digit `j` (from the top): the byte's low `j + 1` digits in balanced form. -/
def left (j n : ℕ) : ℤ := ((n % 3 ^ (j + 1) : ℕ) : ℤ) - ((3 ^ (j + 1) - 1) / 2 : ℕ)

/-- The four roundings meet the trits at every byte from 0 to 242. -/
theorem near : ∀ n : Fin 243,
    (2 * trit 4 n * 16384 - 16384 < 2 * left 4 n * 202 ∧ 2 * left 4 n * 202 < 2 * trit 4 n * 16384 + 16384)
    ∧ (2 * trit 3 n * 4096 - 4096 < 2 * left 3 n * 152 ∧ 2 * left 3 n * 152 < 2 * trit 3 n * 4096 + 4096)
    ∧ (2 * trit 2 n * 2048 - 2048 < 2 * left 2 n * 227 ∧ 2 * left 2 n * 227 < 2 * trit 2 n * 2048 + 2048)
    ∧ (2 * trit 1 n * 512 - 512 < 2 * left 1 n * 171 ∧ 2 * left 1 n * 171 < 2 * trit 1 n * 512 + 512) := by
  decide +kernel

/-- Subtracting each trit's multiple leaves the lower digits, at every byte from 0 to 242. -/
theorem steps : ∀ n : Fin 243,
    (n : ℤ) - 121 = left 4 n ∧ left 4 n - trit 4 n * 81 = left 3 n ∧ left 3 n - trit 3 n * 27 = left 2 n
    ∧ left 2 n - trit 2 n * 9 = left 1 n ∧ left 1 n - trit 1 n * 3 = trit 0 n := by
  decide +kernel

/-- The kernel's digits of a byte up to 242 are its trits. -/
theorem dig_eq (b : BitVec 8) (hb : b.toNat ≤ 242) (j : Fin 5) : dig j b = real (trit j b.toNat) := by
  obtain ⟨n4, n3, n2, n1⟩ := near ⟨b.toNat, by omega⟩
  obtain ⟨s4, s3, s2, s1, s0⟩ := steps ⟨b.toNat, by omega⟩
  dsimp only at n4 n3 n2 n1 s4 s3 s2 s1 s0
  have e4 : rest4 b = real (left 4 b.toNat) := by
    rw [rest4, c121, ← s4]; simp only [real]; push_cast; rfl
  have d4 : dig4 b = real (trit 4 b.toNat) := by rw [dig4, e4, r81, rnd_mul _ _ _ _ (by norm_num) n4.1 n4.2]
  have e3 : rest3 b = real (left 3 b.toNat) := by rw [rest3, e4, d4, c81, real_sub_mul, s3]
  have d3 : dig3 b = real (trit 3 b.toNat) := by rw [dig3, e3, r27, rnd_mul _ _ _ _ (by norm_num) n3.1 n3.2]
  have e2 : rest2 b = real (left 2 b.toNat) := by rw [rest2, e3, d3, c27, real_sub_mul, s2]
  have d2 : dig2 b = real (trit 2 b.toNat) := by rw [dig2, e2, r9, rnd_mul _ _ _ _ (by norm_num) n2.1 n2.2]
  have e1 : rest1 b = real (left 1 b.toNat) := by rw [rest1, e2, d2, c9, real_sub_mul, s1]
  have d1 : dig1 b = real (trit 1 b.toNat) := by rw [dig1, e1, r3, rnd_mul _ _ _ _ (by norm_num) n1.1 n1.2]
  have d0 : dig0 b = real (trit 0 b.toNat) := by rw [dig0, e1, d1, c3, real_sub_mul, s0]
  fin_cases j
  · exact d0
  · exact d1
  · exact d2
  · exact d3
  · exact d4

/-! ## The layer's value at one output element -/

/-- The five dot products, one per trit of the byte, added in order, times the scale. -/
def combine (x d : Fin 5 → Fin 1024 → EReal) (s : EReal) : EReal :=
  (∑ k, x 0 k * d 0 k + ∑ k, x 1 k * d 1 k + ∑ k, x 2 k * d 2 k + ∑ k, x 3 k * d 3 k + ∑ k, x 4 k * d 4 k) * s

/-- The column of the permuted x that meets digit `j` of byte row `k`: the columns are grouped by digit. -/
def slot (j : Fin 5) (k : Fin 1024) : Fin 5120 := ⟨1024 * j + k, by omega⟩

/-- The column of x that meets digit `j` of byte row `k`: the digits of one byte are neighbours. -/
def col (j : Fin 5) (k : Fin 1024) : Fin 5120 := ⟨5 * k + j, by omega⟩

end Cert.Decode

end
-- ==== Proof.KernelBlock.lean ====
/- What one grid point of the kernel leaves in its output block: the five products of an x column slice with a digit
   plane, added in digit order and scaled. -/
module

public import proofs.«01_k».proof.Proof.Decode
public import proofs.«01_k».proof.Proof.Gen.KernelIdeal.Frame
public import Idealize.ShloMosaic.Lib.Pipeline.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Block

open Cert.KernelIdeal Cert.KernelIdeal.Gen Cert.Decode

/-- What the body leaves in the output block at row `r` and column `q`: the five dot products of the x column groups
    with the kernel's digits of the block's bytes, scaled. -/
theorem out_eq (c : Dev nD) (i : grid0.Coords) (a1 : Memref sig .tc .smem S1 .f32) (h1 : a1.IsWhole)
    (a2 : Memref sig .tc .vmem S256x5120 .bf16) (h2 : a2.IsWhole) (a3 : Memref sig .tc .vmem S1024x512 .i8) (h3 : a3.IsWhole)
    (a4 : Memref sig .tc .vmem S256x512 .bf16) (h4 : a4.IsWhole) (s : Vec Ideal S1 .f32) (x : Vec Ideal S256x5120 .bf16)
    (w : Vec Ideal S1024x512 .i8) (r : Fin 256) (q : Fin 512) :
    out0_A_3 (F := Ideal) c i a1 h1 a2 h2 a3 h3 a4 h4 s x w (ix2 r q)
      = combine (fun j k => x (ix2 r (slot j k))) (fun j k => dig j (w (ix2 k q))) (s (ix1 0)) := by
  unfold out0_A_3
  rw [View.read_writes_eq_canon _ _ _ (cover0_A_3 c i a1 h1 a2 h2 a3 h3 a4 h4 s x w)]
  unfold kernelRun0_A
  dsimp only
  sl_unfold_words
  simp only [View.readAt_eq_ld, h1.read_unread, h2.read_unread, h3.read_unread]
  rw [View.canon_unit_zero (S := S256x512) (by decide)]
  have e0 : ∀ k, slot 0 k = ⟨k, by omega⟩ := fun k => Fin.ext (by simp [slot])
  have e1 : ∀ k, slot 1 k = ⟨1024 + k, by omega⟩ := fun k => rfl
  have e2 : ∀ k, slot 2 k = ⟨2048 + k, by omega⟩ := fun k => rfl
  have e3 : ∀ k, slot 3 k = ⟨3072 + k, by omega⟩ := fun k => rfl
  have e4 : ∀ k, slot 4 k = ⟨4096 + k, by omega⟩ := fun k => rfl
  unfold combine
  simp only [e0, e1, e2, e3, e4]
  pointwise [k0_pay1, k0_pay2, k0_pay3, k0_pay4, k0_pay5, k0_pay6]
  rfl

end Cert.KernelIdeal.Block

end
-- ==== Proof.KernelArray.lean ====
/- What the kernel's result array holds after the region: every element is the block value at its own coordinates, since
   the fourteen blocks of 512 columns tile the array and each block reads all of x and the matching weight columns. -/
module

public import proofs.«01_k».proof.Proof.KernelBlock

@[expose] public section

set_option maxRecDepth 16384

noncomputable section

open Idealize.ShloMosaic Idealize.ShloMosaic.TcCoe Idealize.SL.Sem
open Idealize.ShloMosaic.Pipeline (Dat)

namespace Cert.KernelIdeal.Block

open Cert.KernelIdeal Cert.KernelIdeal.Gen Cert.Decode

variable (m : (ℓ : Loc nD τ sig) → Buf (Elt Ideal) ℓ)

/-- The region's result array, from the permuted x, the packed weights and the scale as the region finds them. -/
def layer (c : Dev nD) : Buf (Elt Ideal) ((c : Thread nD τ).loc main_v4) := fun i : S256x7168.Idx =>
  combine (fun j k => V m c main_v2 (ix2 (i 0) (slot j k))) (fun j k => dig j (V m c main_arg1 (ix2 k (i 1))))
    (V m c main_v3 (ix1 0))

/-- The windows' index maps at every grid point: x and the scale are whole, the weights and the result move together. -/
theorem index_maps : ∀ t : Fin grid0.N, win0_0.index t 0 = 0 ∧ win0_1.index t 0 = 0 ∧ win0_1.index t 1 = 0
    ∧ win0_2.index t 0 = 0 ∧ win0_3.index t 0 = 0 ∧ win0_2.index t 1 = win0_3.index t 1 := by
  decide +kernel

/-- The region leaves `layer` in its result array. -/
theorem final (c : Dev nD) : (dats m 0 c).arrAt 3 cfg0.N = layer m c := by
  refine (dats m 0 c).arrAt_eq_of_covers 3 _ (by decide +kernel) fun t hf y => ?_
  blk_simp
  rw [after0_3]
  unfold outsAt0
  idx_vars y
  rw [out_eq]
  unfold layer
  blk_simp [iblk]
  obtain ⟨i00, i10, i11, i20, i30, i21⟩ := index_maps t
  have ex : ∀ k : Fin 5120, (win0_1.blk t).view.emb (ix2 y0 k) = ix2 ((win0_3.blk t).view.emb (ix2 y0 y1) 0) k := by
    intro k; funext a; apply Fin.ext
    match a with
    | ⟨0, _⟩ => show ((win0_1.blk t).view.emb (ix2 y0 k) 0 : ℕ) = ((win0_3.blk t).view.emb (ix2 y0 y1) 0 : ℕ)
                blk_simp; rw [i10, i30]
    | ⟨1, _⟩ => show ((win0_1.blk t).view.emb (ix2 y0 k) 1 : ℕ) = (k : ℕ)
                blk_simp; rw [i11]; simp
  have ew : ∀ k : Fin 1024, (win0_2.blk t).view.emb (ix2 k y1) = ix2 k ((win0_3.blk t).view.emb (ix2 y0 y1) 1) := by
    intro k; funext a; apply Fin.ext
    match a with
    | ⟨0, _⟩ => show ((win0_2.blk t).view.emb (ix2 k y1) 0 : ℕ) = (k : ℕ)
                blk_simp; rw [i20]; simp
    | ⟨1, _⟩ => show ((win0_2.blk t).view.emb (ix2 k y1) 1 : ℕ) = ((win0_3.blk t).view.emb (ix2 y0 y1) 1 : ℕ)
                blk_simp; rw [i21]
  have es : (win0_0.blk t).view.emb (ix1 0) = ix1 0 := by
    funext a; apply Fin.ext
    match a with
    | ⟨0, _⟩ => show ((win0_0.blk t).view.emb (ix1 0) 0 : ℕ) = 0
                blk_simp; rw [i00]; simp
  simp only [ex, ew, es]
  rfl

end Cert.KernelIdeal.Block

end
-- ==== Proof.KernelRun.lean ====
/- The kernel's run, read: its result is the layer value of the arguments. The host prefix groups the columns of x by
   digit (a reshape, a transpose, a reshape) and the host tail only adds the unit axis back. -/
module

public import proofs.«01_k».proof.Proof.KernelArray
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelIdeal.Block

open Cert.KernelIdeal Cert.KernelIdeal.Gen Cert.Decode

variable (m : (ℓ : Loc nD τ sig) → Buf (Elt Ideal) ℓ) (ρ : Dev nD → PrngReg)

/-- The permuted x as the region finds it: column `1024 j + k` is column `5 k + j` of the argument. -/
theorem V_x (c : Dev nD) (r : Fin 256) (j : Fin 5) (k : Fin 1024) :
    V m c main_v2 (ix2 r (slot j k)) = m ((c : Thread nD τ).loc main_arg0) (ix3 r 0 (col j k)) := by
  unfold V V0 hostOps0 slot
  after_reads_at
  have e : (⟨(k : ℕ) * 5 + j, by omega⟩ : Fin 5120) = col j k := Fin.ext (by simp only [col]; omega)
  exact congrArg (fun q => m ((c : Thread nD τ).loc main_arg0) (ix3 r 0 q)) e

/-- The scale as the region finds it. -/
theorem V_scale (c : Dev nD) : V m c main_v3 (ix1 0) = m ((c : Thread nD τ).loc main_arg2) ix0 := by
  unfold V V0 hostOps0
  after_reads_at

/-- What the result buffer holds after the host tail: the region's array with a unit axis. -/
theorem W_out (c : Dev nD) (r : Fin 256) (q : Fin 7168) :
    Pipeline.afterTail₀ cfgs (dats m) 0 (V0 m) [hostOps1] c main_v5 (ix3 r 0 q) = layer m c (ix2 r q) := by
  have hw : Pipeline.withArrays (cfgs 0).spec c (V0 m c) (fun w => (dats m 0 c).arrAt w (cfgs 0).N) (Proc.devRef .tc main_v4)
      = layer m c :=
    (Pipeline.withArrays_arr spec0 (by decide) c (V0 m c) (fun w => (dats m 0 c).arrAt w (cfgs 0).N) 3).trans (final m c)
  unfold Pipeline.afterTail₀ hostOps1
  generalize Pipeline.withArrays (cfgs 0).spec c (V0 m c) (fun w => (dats m 0 c).arrAt w (cfgs 0).N) = X at hw ⊢
  after_reads_at
  exact congrFun hw _

/-- The result as a function of the arguments: at row `r` and column `q`, the five dot products of the columns of x that
    meet each digit with the kernel's digits of the packed bytes, scaled. -/
def result (x : Vec Ideal S256x1x5120 .bf16) (w : Vec Ideal S1024x7168 .i8) (s : Vec Ideal S_ .f32) : Vec Ideal S256x1x7168 .bf16 :=
  fun i => combine (fun j k => x (ix3 (i 0) 0 (col j k))) (fun j k => dig j (w (ix2 k (i 2)))) (s ix0)

/-- The result buffer ends at `result` of the arguments. -/
theorem W_result (c : Dev nD) : Pipeline.afterTail₀ cfgs (dats m) 0 (V0 m) [hostOps1] c main_v5
    = result (m ((c : Thread nD τ).loc main_arg0)) (m ((c : Thread nD τ).loc main_arg1)) (m ((c : Thread nD τ).loc main_arg2)) := by
  funext i
  obtain ⟨r, u, q, rfl⟩ : ∃ (r : Fin 256) (u : Fin 1) (q : Fin 7168), i = ix3 r u q := ⟨i 0, i 1, i 2, eq_ix3 i⟩
  obtain rfl : u = 0 := Subsingleton.elim _ _
  rw [W_out]
  have hx : (fun j k => V m c main_v2 (ix2 r (slot j k)))
      = fun j k => m ((c : Thread nD τ).loc main_arg0) (ix3 r 0 (col j k)) := funext₂ (V_x m c r)
  have hw : (fun (j : Fin 5) (k : Fin 1024) => dig j (V m c main_arg1 (ix2 k q)))
      = fun j k => dig j (m ((c : Thread nD τ).loc main_arg1) (ix2 k q)) :=
    funext₂ fun j k => congrArg (dig j) (congrFun (V_main_arg1 m c) (ix2 k q))
  exact congr (congrArg₂ combine hx hw) (V_scale m c)

/-- The kernel's run: the result buffer at `result` of the arguments, the arguments unchanged. -/
theorem run : θ_run defs (onTc (τ := τ) (main (F := Ideal))) ⟨m, fun _ => 0, ρ⟩ fun r => ∀ c : Dev nD,
    r.2.mem ((c : Thread nD τ).loc main_v5)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v5 (Pipeline.mem_restRefs_of main_v5 (by decide) (by decide))).trans (W_result m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c)⟩)
    (run_main m ρ)

end Cert.KernelIdeal.Block

end
-- ==== Proof.RefDigits.lean ====
/- The reference's digits of one byte: it widens the byte to 32 bits, takes the floor quotient by `3^j` and the floor
   remainder by three, converts that to a float and subtracts one. Read at one element this is trit `j` of the byte. -/
module

public import proofs.«01_k».proof.Proof.Decode
public import proofs.«01_k».proof.Proof.Gen.ReferenceIdeal.Read

@[expose] public section

set_option maxRecDepth 16384

noncomputable section

open Idealize.ShloMosaic Idealize.ShloMosaic.TcCoe Idealize.SL.Sem

namespace Cert.ReferenceIdeal.Digits

open Cert.ReferenceIdeal Cert.ReferenceIdeal.Gen Cert.ReferenceIdeal.Read Cert.Decode

/-- The sign of a word: minus one, zero or one. -/
def sgn (x : BitVec 32) : BitVec 32 := if x = 0 then 0 else if x.msb then -1 else 1

/-- The floor quotient of two words as the reference spells it: the truncated quotient, less one when the signs differ
    and the division is not exact. -/
def quo (x p : BitVec 32) : BitVec 32 :=
  Scalar.select (IntOp.andi (IntOp.cmpi .ne (sgn x) (sgn p)) (IntOp.cmpi .ne (IntOp.remsi .host x p) 0#32))
    (IntOp.subi (IntOp.divsi .host x p) 1#32) (IntOp.divsi .host x p)

/-- The divisor the floor remainder divides by: one in place of zero. -/
def divisor (p : BitVec 32) : BitVec 32 := Scalar.select (IntOp.cmpi .eq p 0#32) 1#32 p

/-- The floor remainder of two words as the reference spells it: the truncated remainder, plus the divisor when the signs
    differ and it is not zero. -/
def rem (x p : BitVec 32) : BitVec 32 :=
  Scalar.select (IntOp.andi (IntOp.cmpi .ne (IntOp.cmpi .slt (IntOp.remsi .host x (divisor p)) 0#32) (IntOp.cmpi .slt (divisor p) 0#32))
      (IntOp.cmpi .ne (IntOp.remsi .host x (divisor p)) 0#32))
    (IntOp.addi (IntOp.remsi .host x (divisor p)) (divisor p)) (IntOp.remsi .host x (divisor p))

/-- The reference's digit word of a byte, for the power `p` of three. -/
def word (p : BitVec 32) (b : BitVec 8) : BitVec 32 := rem (quo (b.setWidth 32) p) 3#32

/-- At every byte the five digit words are the byte's base-3 digits (the top one too: it is taken modulo three). -/
theorem word_toInt : ∀ b : BitVec 8, (word 1#32 b).toInt = trit 0 b.toNat + 1 ∧ (word 3#32 b).toInt = trit 1 b.toNat + 1
    ∧ (word 9#32 b).toInt = trit 2 b.toNat + 1 ∧ (word 27#32 b).toInt = trit 3 b.toNat + 1
    ∧ (word 81#32 b).toInt = trit 4 b.toNat + 1 := by
  decide +kernel

theorem one : Ideal.ofBits .bf16 0x3F80#16 = real 1 := by
  simp [Ideal.ofBits, Ideal.ieee, -EReal.coe_mul]; norm_num

/-- A digit word read as a float, less one, is the trit. -/
theorem trit_of_word (v : BitVec 32) (z : ℤ) (h : v.toInt = z + 1) :
    ((v.toInt : ℝ) : EReal) - Ideal.ofBits .bf16 0x3F80#16 = real z := by
  rw [one, h]; simp only [real]; rw [← EReal.coe_sub]; congr 1; push_cast; ring

variable (w : (⟨S1024x7168, .i8⟩ : BufTy).Contents (Elt Ideal)) (i : S1024x7168.Idx)

/-- The reference's digit word 0 at one element. -/
theorem digit0 : val_main_v3 (F := Ideal) w i = word 1#32 (w i) := rfl
/-- The reference's digit word 1 at one element. -/
theorem digit1 : val_main_v10 (F := Ideal) w i = word 3#32 (w i) := rfl
/-- The reference's digit word 2 at one element. -/
theorem digit2 : val_main_v18 (F := Ideal) w i = word 9#32 (w i) := rfl
/-- The reference's digit word 3 at one element. -/
theorem digit3 : val_main_v26 (F := Ideal) w i = word 27#32 (w i) := rfl
/-- The reference's digit word 4 at one element. -/
theorem digit4 : val_main_v34 (F := Ideal) w i = word 81#32 (w i) := rfl

/-- The reference's plane of trit 0 at one element. -/
theorem plane0 : val_main_v6 (F := Ideal) w i = real (trit 0 (w i).toNat) := by
  rw [val_main_v6_apply, val_main_v4_apply, digit0]
  exact trit_of_word _ _ (word_toInt _).1
/-- The reference's plane of trit 1 at one element. -/
theorem plane1 : val_main_v13 (F := Ideal) w i = real (trit 1 (w i).toNat) := by
  rw [val_main_v13_apply, val_main_v11_apply, digit1]
  exact trit_of_word _ _ (word_toInt _).2.1
/-- The reference's plane of trit 2 at one element. -/
theorem plane2 : val_main_v21 (F := Ideal) w i = real (trit 2 (w i).toNat) := by
  rw [val_main_v21_apply, val_main_v19_apply, digit2]
  exact trit_of_word _ _ (word_toInt _).2.2.1
/-- The reference's plane of trit 3 at one element. -/
theorem plane3 : val_main_v29 (F := Ideal) w i = real (trit 3 (w i).toNat) := by
  rw [val_main_v29_apply, val_main_v27_apply, digit3]
  exact trit_of_word _ _ (word_toInt _).2.2.2.1
/-- The reference's plane of trit 4 at one element. -/
theorem plane4 : val_main_v37 (F := Ideal) w i = real (trit 4 (w i).toNat) := by
  rw [val_main_v37_apply, val_main_v35_apply, digit4]
  exact trit_of_word _ _ (word_toInt _).2.2.2.2

end Cert.ReferenceIdeal.Digits

end
-- ==== Proof.RefValue.lean ====
/- The reference's result at one element: five host dot products, one per trit, of a strided column slice of x with a trit
   plane, added in order and scaled. -/
module

public import proofs.«01_k».proof.Proof.RefDigits
public import Idealize.ShloMosaic.Lib.Pointwise

@[expose] public section

set_option maxRecDepth 16384

noncomputable section

open Idealize.ShloMosaic Idealize.ShloMosaic.TcCoe Idealize.SL.Sem

namespace Cert.ReferenceIdeal.Digits

open Cert.ReferenceIdeal Cert.ReferenceIdeal.Gen Cert.ReferenceIdeal.Read Cert.Decode

/-- The reference's result at row `r` and column `q`. -/
theorem value (x : (⟨S256x1x5120, .bf16⟩ : BufTy).Contents (Elt Ideal)) (w : (⟨S1024x7168, .i8⟩ : BufTy).Contents (Elt Ideal))
    (s : (⟨S_, .f32⟩ : BufTy).Contents (Elt Ideal)) (r : Fin 256) (q : Fin 7168) :
    val_main_v43 (F := Ideal) x w s (ix3 r 0 q)
      = combine (fun j k => x (ix3 r 0 (col j k))) (fun j k => real (trit j (w (ix2 k q)).toNat)) (s ix0) := by
  have l0 : ∀ k : Fin 1024, 5 * (k : ℕ) < 5120 := fun k => by omega
  have l1 : ∀ k : Fin 1024, 1 + 5 * (k : ℕ) < 5120 := fun k => by omega
  have l2 : ∀ k : Fin 1024, 2 + 5 * (k : ℕ) < 5120 := fun k => by omega
  have l3 : ∀ k : Fin 1024, 3 + 5 * (k : ℕ) < 5120 := fun k => by omega
  have l4 : ∀ k : Fin 1024, 4 + 5 * (k : ℕ) < 5120 := fun k => by omega
  have e0 : ∀ k, col 0 k = ⟨5 * k, l0 k⟩ := fun k => rfl
  have e1 : ∀ k, col 1 k = ⟨1 + 5 * k, l1 k⟩ := fun k => Fin.ext (Nat.add_comm _ _)
  have e2 : ∀ k, col 2 k = ⟨2 + 5 * k, l2 k⟩ := fun k => Fin.ext (Nat.add_comm _ _)
  have e3 : ∀ k, col 3 k = ⟨3 + 5 * k, l3 k⟩ := fun k => Fin.ext (Nat.add_comm _ _)
  have e4 : ∀ k, col 4 k = ⟨4 + 5 * k, l4 k⟩ := fun k => Fin.ext (Nat.add_comm _ _)
  unfold combine
  simp only [e0, e1, e2, e3, e4]
  pointwise [val_main_v43, val_main_v42, val_main_v41, val_main_v40, val_main_v32, val_main_v24, val_main_v16, val_main_v8,
    val_main_v15, val_main_v23, val_main_v31, val_main_v39, val_main_v7, val_main_v14, val_main_v22, val_main_v30,
    val_main_v38, val_main_v1]
  simp only [plane0, plane1, plane2, plane3, plane4, l0, l1, l2, l3, l4, ↓reduceDIte]

end Cert.ReferenceIdeal.Digits

end
-- ==== Proof.Equation.lean ====
/- The equation of the two programs: over packed bytes up to 242 the reference's result is the kernel's. -/
module

public import proofs.«01_k».proof.Proof.KernelRun
public import proofs.«01_k».proof.Proof.RefValue
public import proofs.«01_k».proof.Proof.Gen.Pre_codes

@[expose] public section

set_option maxRecDepth 16384

noncomputable section

open Idealize.ShloMosaic Idealize.ShloMosaic.TcCoe Idealize.SL.Sem

namespace Cert.Equation

open Cert.Decode

/-- The precondition read at one packed byte: it is at most 242. -/
theorem code_le (x : FVec Ideal Cert.Pre_codes.S256x1x5120 .bf16) (w : IVec Cert.Pre_codes.S1024x7168 8)
    (s : FVec Ideal Cert.Pre_codes.S_ .f32) (h : Cert.Pre_codes.fn (F := Ideal) x w s = fun _ => 1#1)
    (i : Cert.Pre_codes.S1024x7168.Idx) : (w i).toNat ≤ 242 := by
  have h' : IntOp.cmpi .ule (w i) 242#8 = 1#1 := congrFun h i
  generalize w i = b at h' ⊢
  revert b
  decide +kernel

/-- The reference's result is the kernel's when every packed byte is at most 242. -/
theorem ref_eq_kernel (x : Vec Ideal Cert.KernelIdeal.S256x1x5120 .bf16) (w : Vec Ideal Cert.KernelIdeal.S1024x7168 .i8)
    (s : Vec Ideal Cert.KernelIdeal.S_ .f32) (h : ∀ i, (w i : BitVec 8).toNat ≤ 242) :
    Cert.ReferenceIdeal.Read.val_main_v43 (F := Ideal) x w s = Cert.KernelIdeal.Block.result x w s := by
  funext i
  obtain ⟨r, u, q, rfl⟩ : ∃ (r : Fin 256) (u : Fin 1) (q : Fin 7168), i = ix3 r u q := ⟨i 0, i 1, i 2, eq_ix3 i⟩
  obtain rfl : u = 0 := Subsingleton.elim _ _
  rw [Cert.ReferenceIdeal.Digits.value]
  exact congrArg (fun d => combine (fun j k => x (ix3 r 0 (col j k))) d (s ix0))
    (funext₂ fun j k => (dig_eq (w (ix2 k q)) (h _) j).symm)

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_codes
public import proofs.«01_k».proof.Proof.Equation
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.ShloMosaic.TcCoe Idealize.SL.Sem

/-- The reference runs, its arguments end unchanged and every counter is zero: it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over packed bytes up to 242 the kernel and the reference end with equal results, exactly, for any x and scale. -/
theorem value : Cert.algebraic_KernelIdeal_ReferenceIdeal_pre_codes := by
  intro m ρ m' ρ' hpre hagree
  refine ⟨fun c => Cert.KernelIdeal.Block.result (m ((c : Thread Cert.KernelIdeal.nD Cert.KernelIdeal.τ).loc Cert.KernelIdeal.main_arg0))
    (m ((c : Thread Cert.KernelIdeal.nD Cert.KernelIdeal.τ).loc Cert.KernelIdeal.main_arg1))
    (m ((c : Thread Cert.KernelIdeal.nD Cert.KernelIdeal.τ).loc Cert.KernelIdeal.main_arg2)), Cert.KernelIdeal.Block.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v43_eq (StableHlo.launchContents m' c)).trans ?_
  show Cert.ReferenceIdeal.Read.val_main_v43 (F := Ideal) (m' ((c : Thread Cert.ReferenceIdeal.nD Cert.ReferenceIdeal.τ).loc Cert.ReferenceIdeal.main_arg0))
    (m' ((c : Thread Cert.ReferenceIdeal.nD Cert.ReferenceIdeal.τ).loc Cert.ReferenceIdeal.main_arg1))
    (m' ((c : Thread Cert.ReferenceIdeal.nD Cert.ReferenceIdeal.τ).loc Cert.ReferenceIdeal.main_arg2)) = _
  rw [(hagree c).1, (hagree c).2.1, (hagree c).2.2]
  exact Cert.Equation.ref_eq_kernel _ _ _ (Cert.Equation.code_le _ _ _ (hpre c))

/-- Everything the certificate claims. -/
theorem claim : Cert.Claim := ⟨Cert.Kernel.Gen.facts, Cert.KernelIdeal.Gen.facts, Cert.ReferenceIdeal.Gen.facts, Cert.Pre_codes.Gen.facts,
  fun m ρ _ => Cert.Kernel.Gen.frame m ρ, fun m ρ _ => Cert.KernelIdeal.Gen.frame m ρ,
  fun m ρ _ => Cert.KernelIdeal.Gen.frame m ρ, frame_reference, fun m ρ _ => frame_reference m ρ trivial, trivial, value⟩

end Cert.Proof

end
